-- ==== Defs.lean ====
def Pre_Kernel [hPre_row_of_table : Cert.Pre_row_of_table.Facts] (m : (ℓ : Loc Cert.Kernel.nD Cert.Kernel.τ Cert.Kernel.sig) → Buf (Elt Bits) ℓ) : Prop :=
  ∀ c : Dev Cert.Kernel.nD,
    (Cert.Pre_row_of_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_row_of_table : Cert.Pre_row_of_table.Facts] (m : (ℓ : Loc Cert.KernelIdeal.nD Cert.KernelIdeal.τ Cert.KernelIdeal.sig) → Buf (Elt Ideal) ℓ) : Prop :=
  ∀ c : Dev Cert.KernelIdeal.nD,
    (Cert.Pre_row_of_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_of_table [hPre_row_of_table : Cert.Pre_row_of_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_of_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_row_of_table : Cert.Pre_row_of_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_row_of_table : Cert.Pre_row_of_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_row_of_table [hReferenceIdeal : Cert.ReferenceIdeal.Facts] [hPre_row_of_table : Cert.Pre_row_of_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_of_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "root_dim" .f32 0x41DDB3D7#32 ((Real.sqrt 768 : ℝ) : EReal)

def algebraic_KernelIdeal_ReferenceIdeal [hKernelIdeal : Cert.KernelIdeal.Facts] [hReferenceIdeal : Cert.ReferenceIdeal.Facts] [hPre_row_of_table : Cert.Pre_row_of_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_row_of_table : Cert.Pre_row_of_table.Facts),
    quiescent_Kernel (hKernel := hKernel) (hPre_row_of_table := hPre_row_of_table)
    ∧ quiescent_KernelIdeal (hKernelIdeal := hKernelIdeal) (hPre_row_of_table := hPre_row_of_table)
    ∧ quiescent_ReferenceIdeal (hReferenceIdeal := hReferenceIdeal)
    ∧ quiescent_ReferenceIdeal_pre_row_of_table (hReferenceIdeal := hReferenceIdeal) (hPre_row_of_table := hPre_row_of_table)
    ∧ preserves_Kernel_KernelIdeal
    ∧ algebraic_KernelIdeal_ReferenceIdeal (hKernelIdeal := hKernelIdeal) (hReferenceIdeal := hReferenceIdeal) (hPre_row_of_table := hPre_row_of_table)
-- ==== Pre_row_of_table.lean ====
abbrev S4x4096x768 : Shape := ⟨3, ![4, 4096, 768]⟩
abbrev S2x768 : Shape := ⟨2, ![2, 768]⟩
abbrev S_ : Shape := ⟨0, ![]⟩

class Facts : Prop where

variable [Facts]

def fn {F : FTy → Type} [FloatOps F] (main_arg0 : FVec F S4x4096x768 .f32) (main_arg1 : FVec F S2x768 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 2#32
  let main_v1 : IVec S_ 1 := cmpi .slt main_arg2 main_c_0
  let main_v2 : IVec S_ 1 := andi main_v0 main_v1
  main_v2
-- ==== Kernel.lean ====
abbrev S4x4096x768 : Shape := ⟨3, ![4, 4096, 768]⟩
abbrev S2x768 : Shape := ⟨2, ![2, 768]⟩
abbrev S_ : Shape := ⟨0, ![]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x384x1 : Shape := ⟨3, ![128, 384, 1]⟩
abbrev S128x384x2 : Shape := ⟨3, ![128, 384, 2]⟩
abbrev S384x2 : Shape := ⟨2, ![384, 2]⟩
abbrev S768 : Shape := ⟨1, ![768]⟩
abbrev S32 : Shape := ⟨1, ![32]⟩
abbrev S32x1 : Shape := ⟨2, ![32, 1]⟩
abbrev S1x768 : Shape := ⟨2, ![1, 768]⟩
abbrev S32x768 : Shape := ⟨2, ![32, 768]⟩
abbrev S128x768 : Shape := ⟨2, ![128, 768]⟩
abbrev S1 : Shape := ⟨1, ![1]⟩
abbrev S4x8x768 : Shape := ⟨3, ![4, 8, 768]⟩
abbrev S4x1024x768 : Shape := ⟨3, ![4, 1024, 768]⟩
abbrev S1x8x768 : Shape := ⟨3, ![1, 8, 768]⟩
abbrev S8x768 : Shape := ⟨2, ![8, 768]⟩
abbrev S1x128x768 : Shape := ⟨3, ![1, 128, 768]⟩
abbrev S8x1x768 : Shape := ⟨3, ![8, 1, 768]⟩
abbrev S8x128x768 : Shape := ⟨3, ![8, 128, 768]⟩
abbrev S1024x768 : Shape := ⟨2, ![1024, 768]⟩
abbrev S1x1024x768 : Shape := ⟨3, ![1, 1024, 768]⟩

abbrev nBuf : Space → Nat
  | .hbm => 64
  | .vmem => 11
  | .smem => 1
  | _ => 0

abbrev bufTy : (tb : Table) → Fin (tcTables nBuf tb) → BufTy
  | .hbm, ⟨0, _⟩ => ⟨S4x4096x768, .f32⟩
  | .hbm, ⟨1, _⟩ => ⟨S2x768, .f32⟩
  | .hbm, ⟨2, _⟩ => ⟨S_, .i32⟩
  | .hbm, ⟨3, _⟩ => ⟨S128, .i32⟩
  | .hbm, ⟨4, _⟩ => ⟨S128, .f32⟩
  | .hbm, ⟨5, _⟩ => ⟨S128x1, .f32⟩
  | .hbm, ⟨6, _⟩ => ⟨S384, .i32⟩
  | .hbm, ⟨7, _⟩ => ⟨S_, .i32⟩
  | .hbm, ⟨8, _⟩ => ⟨S384, .i32⟩
  | .hbm, ⟨9, _⟩ => ⟨S384, .i32⟩
  | .hbm, ⟨10, _⟩ => ⟨S384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S384, .f32⟩
  | .hbm, ⟨17, _⟩ => ⟨S384, .f32⟩
  | .hbm, ⟨18, _⟩ => ⟨S384, .f32⟩
  | .hbm, ⟨19, _⟩ => ⟨S1x384, .f32⟩
  | .hbm, ⟨20, _⟩ => ⟨S128x384, .f32⟩
  | .hbm, ⟨21, _⟩ => ⟨S128x384, .f32⟩
  | .hbm, ⟨22, _⟩ => ⟨S128x384, .f32⟩
  | .hbm, ⟨23, _⟩ => ⟨S128x384, .f32⟩
  | .hbm, ⟨24, _⟩ => ⟨S128x384, .f32⟩
  | .hbm, ⟨25, _⟩ => ⟨S128x384x1, .f32⟩
  | .hbm, ⟨26, _⟩ => ⟨S128x384x1, .f32⟩
  | .hbm, ⟨27, _⟩ => ⟨S128x384x2, .f32⟩
  | .hbm, ⟨28, _⟩ => ⟨S384x2, .f32⟩
  | .hbm, ⟨29, _⟩ => ⟨S768, .f32⟩
  | .hbm, ⟨30, _⟩ => ⟨S32, .i32⟩
  | .hbm, ⟨31, _⟩ => ⟨S32, .f32⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S1x768, .f32⟩
  | .hbm, ⟨37, _⟩ => ⟨S32x768, .f32⟩
  | .hbm, ⟨38, _⟩ => ⟨S32x768, .f32⟩
  | .hbm, ⟨39, _⟩ => ⟨S32x768, .f32⟩
  | .hbm, ⟨40, _⟩ => ⟨S32x768, .f32⟩
  | .hbm, ⟨41, _⟩ => ⟨S32x768, .f32⟩
  | .hbm, ⟨42, _⟩ => ⟨S768, .i32⟩
  | .hbm, ⟨43, _⟩ => ⟨S_, .i32⟩
  | .hbm, ⟨44, _⟩ => ⟨S768, .i32⟩
  | .hbm, ⟨45, _⟩ => ⟨S768, .i32⟩
  | .hbm, ⟨46, _⟩ => ⟨S_, .i32⟩
  | .hbm, ⟨47, _⟩ => ⟨S768, .i32⟩
  | .hbm, ⟨48, _⟩ => ⟨S768, .i1⟩
  | .hbm, ⟨49, _⟩ => ⟨S_, .f32⟩
  | .hbm, ⟨50, _⟩ => ⟨S768, .f32⟩
  | .hbm, ⟨51, _⟩ => ⟨S_, .f32⟩
  | .hbm, ⟨52, _⟩ => ⟨S768, .f32⟩
  | .hbm, ⟨53, _⟩ => ⟨S768, .f32⟩
  | .hbm, ⟨54, _⟩ => ⟨S1x768, .f32⟩
  | .hbm, ⟨55, _⟩ => ⟨S32x768, .f32⟩
  | .hbm, ⟨56, _⟩ => ⟨S32x768, .f32⟩
  | .hbm, ⟨57, _⟩ => ⟨S128x768, .f32⟩
  | .hbm, ⟨58, _⟩ => ⟨S128x384x2, .f32⟩
  | .hbm, ⟨59, _⟩ => ⟨S128x384x2, .f32⟩
  | .hbm, ⟨60, _⟩ => ⟨S128x768, .f32⟩
  | .hbm, ⟨61, _⟩ => ⟨S4x8x768, .f32⟩
  | .hbm, ⟨62, _⟩ => ⟨S4x8x768, .f32⟩
  | .hbm, ⟨63, _⟩ => ⟨S4x4096x768, .f32⟩
  | .local _ .vmem, ⟨0, _⟩ => ⟨S4x1024x768, .f32⟩
  | .local _ .vmem, ⟨1, _⟩ => ⟨S4x1024x768, .f32⟩
  | .local _ .vmem, ⟨2, _⟩ => ⟨S2x768, .f32⟩
  | .local _ .vmem, ⟨3, _⟩ => ⟨S128x768, .f32⟩
  | .local _ .vmem, ⟨4, _⟩ => ⟨S128x768, .f32⟩
  | .local _ .vmem, ⟨5, _⟩ => ⟨S1x8x768, .f32⟩
  | .local _ .vmem, ⟨6, _⟩ => ⟨S1x8x768, .f32⟩
  | .local _ .vmem, ⟨7, _⟩ => ⟨S1x8x768, .f32⟩
  | .local _ .vmem, ⟨8, _⟩ => ⟨S1x8x768, .f32⟩
  | .local _ .vmem, ⟨9, _⟩ => ⟨S4x1024x768, .f32⟩
  | .local _ .vmem, ⟨10, _⟩ => ⟨S4x1024x768, .f32⟩
  | .local _ .smem, ⟨0, _⟩ => ⟨S1, .i32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_2 : Ref sig .tc := ⟨.hbm, 43, rfl⟩
abbrev main_v36 : Ref sig .tc := ⟨.hbm, 44, rfl⟩
abbrev main_v37 : Ref sig .tc := ⟨.hbm, 45, rfl⟩
abbrev main_c_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v50 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v50.idx], fun | 0 => main_v50.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let v1 : Index := Scalar.indexCast v0
  let c0_0 : Index := 0#32
  ![v1.toNat, 0]

def k0_chk1 (v0 : BitVec 32) : Prop :=
  (∀ a, (k0_off1 v0) a + S1x768.size a ≤ S2x768.size a)
theorem k0_off1_inb : ∀ (v0 : BitVec 32) (k0_hw1 : k0_chk1 v0), ∀ a, (k0_off1 v0) a + S1x768.size a ≤ S2x768.size a := fun v0 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "root_dim" => some ((Real.sqrt 768 : ℝ) : EReal)
  | _ => none
-- ==== ReferenceIdeal.lean ====
abbrev S4x4096x768 : Shape := ⟨3, ![4, 4096, 768]⟩
abbrev S2x768 : Shape := ⟨2, ![2, 768]⟩
abbrev S_ : Shape := ⟨0, ![]⟩
abbrev S1 : Shape := ⟨1, ![1]⟩
abbrev S768 : Shape := ⟨1, ![768]⟩
abbrev S1x1x768 : Shape := ⟨3, ![1, 1, 768]⟩
abbrev S4096 : Shape := ⟨1, ![4096]⟩
abbrev S4096x1 : Shape := ⟨2, ![4096, 1]⟩
abbrev S384 : Shape := ⟨1, ![384]⟩
abbrev S1x384 : Shape := ⟨2, ![1, 384]⟩
abbrev S4096x384 : Shape := ⟨2, ![4096, 384]⟩
abbrev S4096x384x1 : Shape := ⟨3, ![4096, 384, 1]⟩
abbrev S4096x384x2 : Shape := ⟨3, ![4096, 384, 2]⟩
abbrev S4096x768 : Shape := ⟨2, ![4096, 768]⟩
abbrev S1x4096x768 : Shape := ⟨3, ![1, 4096, 768]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S2x768, .f32⟩
  | .hbm, ⟨2, _⟩ => ⟨S_, .i32⟩
  | .hbm, ⟨3, _⟩ => ⟨S1, .i32⟩
  | .hbm, ⟨4, _⟩ => ⟨S768, .f32⟩
  | .hbm, ⟨5, _⟩ => ⟨S1x1x768, .f32⟩
  | .hbm, ⟨6, _⟩ => ⟨S4x4096x768, .f32⟩
  | .hbm, ⟨7, _⟩ => ⟨S4x4096x768, .f32⟩
  | .hbm, ⟨8, _⟩ => ⟨S_, .f32⟩
  | .hbm, ⟨9, _⟩ => ⟨S_, .f32⟩
  | .hbm, ⟨10, _⟩ => ⟨S4x4096x768, .f32⟩
  | .hbm, ⟨11, _⟩ => ⟨S4x4096x768, .f32⟩
  | .hbm, ⟨12, _⟩ => ⟨S4096, .i32⟩
  | .hbm, ⟨13, _⟩ => ⟨S4096, .f32⟩
  | .hbm, ⟨14, _⟩ => ⟨S4096x1, .f32⟩
  | .hbm, ⟨15, _⟩ => ⟨S384, .i32⟩
  | .hbm, ⟨16, _⟩ => ⟨S_, .i32⟩
  | .hbm, ⟨17, _⟩ => ⟨S384, .i32⟩
  | .hbm, ⟨18, _⟩ => ⟨S384, .i32⟩
  | .hbm, ⟨19, _⟩ => ⟨S_, .i32⟩
  | .hbm, ⟨20, _⟩ => ⟨S384, .i32⟩
  | .hbm, ⟨21, _⟩ => ⟨S384, .i32⟩
  | .hbm, ⟨22, _⟩ => ⟨S384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S384, .f32⟩
  | .hbm, ⟨29, _⟩ => ⟨S384, .f32⟩
  | .hbm, ⟨30, _⟩ => ⟨S384, .f32⟩
  | .hbm, ⟨31, _⟩ => ⟨S1x384, .f32⟩
  | .hbm, ⟨32, _⟩ => ⟨S4096x384, .f32⟩
  | .hbm, ⟨33, _⟩ => ⟨S4096x384, .f32⟩
  | .hbm, ⟨34, _⟩ => ⟨S4096x384, .f32⟩
  | .hbm, ⟨35, _⟩ => ⟨S4096x384, .f32⟩
  | .hbm, ⟨36, _⟩ => ⟨S4096x384, .f32⟩
  | .hbm, ⟨37, _⟩ => ⟨S4096x384x1, .f32⟩
  | .hbm, ⟨38, _⟩ => ⟨S4096x384x1, .f32⟩
  | .hbm, ⟨39, _⟩ => ⟨S4096x384x2, .f32⟩
  | .hbm, ⟨40, _⟩ => ⟨S4096x768, .f32⟩
  | .hbm, ⟨41, _⟩ => ⟨S1x4096x768, .f32⟩
  | .hbm, ⟨42, _⟩ => ⟨S4x4096x768, .f32⟩
  | .hbm, ⟨43, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Row.lean ====
/-
  The row number. The precondition bounds the word from both sides; a word below two names a row of the two-row table, so
  the load at that row stays inside the table.
-/
module

public import proofs.«01_k».proof.Defs
public import proofs.«01_k».proof.Proof.Gen.Pre_row_of_table

@[expose] public section

namespace Cert.Row

open Idealize.ShloMosaic

/-- The precondition, decoded: the word, read as a natural number, is below two. -/
theorem lt_of_pre {F : FTy → Type} [FloatOps F] [hP : Cert.Pre_row_of_table.Facts]
    (x : FVec F Cert.Pre_row_of_table.S4x4096x768 .f32) (t : FVec F Cert.Pre_row_of_table.S2x768 .f32)
    (w : IVec Cert.Pre_row_of_table.S_ 32)
    (h : Cert.Pre_row_of_table.fn (F := F) x t w = fun _ => 1#1) (i : Cert.Pre_row_of_table.S_.Idx) :
    (w i).toNat < 2 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h i
  simp only [Cert.Pre_row_of_table.fn, andi, cmpi, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.Row
-- ==== Proof.KernelSide.lean ====
/-
  The kernel as written: the word that its body reads is the row number, and below two it names a row of the table, which
  is all that the body assumes of it.
-/
module

public import proofs.«01_k».proof.Proof.Gen.Kernel.Frame
public import proofs.«01_k».proof.Proof.Row
public import Idealize.ShloMosaic.Lib.StableHlo.Run

@[expose] public section

noncomputable section

namespace Cert.Kernel.Side

open Cert.Kernel Cert.Kernel.Gen Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

set_option maxRecDepth 8192 in
set_option maxHeartbeats 2000000 in
/-- The pipeline finds the row number, as an array of one word, in its table of words. -/
theorem V_word : V m c main_v50 = shapeCast S1 (m ((c : Thread nD τ).loc main_arg2)) shapeCasts_S_S1 := by
  unfold V
  after_results_simp
  rfl

/-- A word below two names a row of the two-row table. -/
theorem chk_of_lt (w : BitVec 32) (h : w.toNat < 2) : k0_chk1 w := by
  unfold k0_chk1 k0_off1
  intro a
  fin_cases a <;> simp [Scalar.indexCast]
  omega

/-- What the body assumes of its word holds under the precondition. -/
theorem hyps_of_pre (m : (ℓ : Loc nD τ sig) → Buf (Elt Bits) ℓ) (h : Cert.Pre_Kernel m) (hO : Ok m) : Hyps m hO := by
  refine Hyps.of (fun c t => chk_of_lt _ ?_)
  show BitVec.toNat (w := 32) (V m (0 : Dev nD) main_v50 _) < 2
  rw [V_word]
  exact Row.lt_of_pre _ _ _ (h 0) _

end Cert.Kernel.Side

end
-- ==== Proof.Tables.lean ====
/-
  The host's arrays of the ideal kernel, as the pipeline finds them: the frequencies, the two tables of the first 128
  positions (straight, and with each sine and cosine exchanged), the two tables of the 32 multiples of 128 (cosines, and
  sines with the sign of their column), and the one-word table that holds the row number. Each is named as a term of the
  host's operations, and the memory at the pipeline's entry is shown to hold it.
-/
module

public import proofs.«01_k».proof.Proof.Gen.KernelIdeal.Frame
public import Idealize.ShloMosaic.Lib.StableHlo.Run

@[expose] public section

noncomputable section

namespace Cert.KernelIdeal.Tables

open Cert.KernelIdeal Cert.KernelIdeal.Gen Idealize.ShloMosaic Idealize.ShloMosaic.TcCoe Idealize.ShloMosaic.StableHlo Idealize.SL.Sem

variable {F : FTy → Type} [FloatOps F] [Named F]

/-- The 384 frequencies, `exp (2 j · (−ln 10000 / 768))`. -/
def freq : FVec F S384 .f32 :=
  Host.exp (mulf
    (sitofp .f32 (muli (broadcastInDim S384 ![] bcast_S_S384 (constantI S_ 32 2#32)) (iotaInDim S384 32 0)))
    (broadcastInDim S384 ![] bcast_S_S384
      (Host.divf (Host.negf (Host.log (constant S_ .f32 0x461C4000#32))) (constant S_ .f32 0x44400000#32))))

/-- The angles of the first 128 positions: position times frequency. -/
def angle : FVec F S128x384 .f32 :=
  mulf
    (broadcastInDim S128x384 ![0, 1] bcast_S128x1_S128x384_0_1
      (broadcastInDim S128x1 ![0] bcast_S128_S128x1_0 (sitofp .f32 (iotaInDim S128 32 0))))
    (broadcastInDim S128x384 ![0, 1] bcast_S1x384_S128x384_0_1 (broadcastInDim S1x384 ![1] bcast_S384_S1x384_1 freq))

/-- The sine and the cosine of each of those angles, side by side on a last axis of two. -/
def pairs : FVec F S128x384x2 .f32 :=
  concatenate S128x384x2 2
    [⟨S128x384x1, broadcastInDim S128x384x1 ![0, 1] bcast_S128x384_S128x384x1_0_1 (Host.sin angle)⟩,
      ⟨S128x384x1, broadcastInDim S128x384x1 ![0, 1] bcast_S128x384_S128x384x1_0_1 (Host.cos angle)⟩]
    concatenates_S128x384x1_S128x384x1_S128x384x2_d2

/-- The table of the first 128 positions: sine in the even columns, cosine in the odd ones. -/
def base : FVec F S128x768 .f32 :=
  shapeCast S128x768 pairs shapeCasts_S128x384x2_S128x768

/-- The same table with the two columns of each pair exchanged. -/
def swap : FVec F S128x768 .f32 :=
  shapeCast S128x768 (Host.reverse [2] (shapeCast S128x384x2 base shapeCasts_S128x768_S128x384x2))
    shapeCasts_S128x384x2_S128x768

/-- The angles of the 32 multiples of 128, each frequency standing in its two columns. -/
def bigAngle : FVec F S32x768 .f32 :=
  mulf
    (broadcastInDim S32x768 ![0, 1] bcast_S32x1_S32x768_0_1
      (mulf (broadcastInDim S32x1 ![0] bcast_S32_S32x1_0 (sitofp .f32 (iotaInDim S32 32 0)))
        (broadcastInDim S32x1 ![] bcast_S_S32x1 (constant S_ .f32 0x43000000#32))))
    (broadcastInDim S32x768 ![0, 1] bcast_S1x768_S32x768_0_1
      (broadcastInDim S1x768 ![1] bcast_S768_S1x768_1
        (shapeCast S768 (broadcastInDim S384x2 ![0] bcast_S384_S384x2_0 freq) shapeCasts_S384x2_S768)))

/-- The sign of a column: one in the even columns, minus one in the odd ones. -/
def sign : FVec F S768 .f32 :=
  select
    (cmpi .eq (andi (iotaInDim S768 32 0) (broadcastInDim S768 ![] bcast_S_S768 (constantI S_ 32 1#32)))
      (broadcastInDim S768 ![] bcast_S_S768 (constantI S_ 32 0#32)))
    (broadcastInDim S768 ![] bcast_S_S768 (constant S_ .f32 0x3F800000#32))
    (broadcastInDim S768 ![] bcast_S_S768 (constant S_ .f32 0xBF800000#32))

/-- The cosines of the multiples of 128, one block of eight rows for each grid point. -/
def cosBig : FVec F S4x8x768 .f32 :=
  shapeCast S4x8x768 (Host.cos bigAngle) shapeCasts_S32x768_S4x8x768

/-- The signed sines of the multiples of 128, one block of eight rows for each grid point. -/
def sinBig : FVec F S4x8x768 .f32 :=
  shapeCast S4x8x768
    (mulf (Host.sin bigAngle)
      (broadcastInDim S32x768 ![0, 1] bcast_S1x768_S32x768_0_1 (broadcastInDim S1x768 ![1] bcast_S768_S1x768_1 sign)))
    shapeCasts_S32x768_S4x8x768

variable (m : (ℓ : Loc nD τ sig) → Buf (Elt F) ℓ) (c : Dev nD)

set_option maxRecDepth 8192 in
set_option maxHeartbeats 2000000 in
/-- The pipeline finds the table of the first 128 positions in its third operand. -/
theorem V_base : V m c main_v46 = base (F := F) := by
  unfold V
  after_results_simp
  rfl

set_option maxRecDepth 8192 in
set_option maxHeartbeats 2000000 in
/-- The pipeline finds the exchanged table in its fourth operand. -/
theorem V_swap : V m c main_v49 = swap (F := F) := by
  unfold V
  after_results_simp
  rfl

set_option maxRecDepth 8192 in
set_option maxHeartbeats 2000000 in
/-- The pipeline finds the cosines of the multiples of 128 in its fifth operand. -/
theorem V_cosBig : V m c main_v51 = cosBig (F := F) := by
  unfold V
  after_results_simp
  rfl

set_option maxRecDepth 8192 in
set_option maxHeartbeats 2000000 in
/-- The pipeline finds the signed sines of the multiples of 128 in its sixth operand. -/
theorem V_sinBig : V m c main_v52 = sinBig (F := F) := by
  unfold V
  after_results_simp
  rfl

set_option maxRecDepth 8192 in
set_option maxHeartbeats 2000000 in
/-- The pipeline finds the row number, as an array of one word, in its table of words. -/
theorem V_word : V m c main_v50 = shapeCast S1 (m ((c : Thread nD τ).loc main_arg2)) shapeCasts_S_S1 := by
  unfold V
  after_results_simp
  rfl

end Cert.KernelIdeal.Tables

end
-- ==== Proof.KernelIdealSide.lean ====
/-
  The ideal kernel: the word that its body reads is the row number, and below two it names a row of the table, which is
  all that the body assumes of it.
-/
module

public import proofs.«01_k».proof.Proof.Tables
public import proofs.«01_k».proof.Proof.Row

@[expose] public section

noncomputable section

namespace Cert.KernelIdeal.Side

open Cert.KernelIdeal Cert.KernelIdeal.Gen Idealize.ShloMosaic Idealize.ShloMosaic.TcCoe Idealize.SL.Sem

/-- A word below two names a row of the two-row table. -/
theorem chk_of_lt (w : BitVec 32) (h : w.toNat < 2) : k0_chk1 w := by
  unfold k0_chk1 k0_off1
  intro a
  fin_cases a <;> simp [Scalar.indexCast]
  omega

/-- The rows that the body's load names: the word's row, all columns. -/
theorem off_val (w : BitVec 32) (h : w.toNat < 2) : k0_off1 w 0 = w.toNat ∧ k0_off1 w 1 = 0 := by
  unfold k0_off1
  simp [Scalar.indexCast]

variable {F : FTy → Type} [FloatOps F] [Named F]

/-- The word that the body reads is the argument's one element. -/
theorem word_eq (m : (ℓ : Loc nD τ sig) → Buf (Elt F) ℓ) (c : Dev nD) (i : S_.Idx) :
    tbM0_0.view.readAt (Elt F) (Rect.unit (s := S1) ![0] S1.size inb_S1_S1_0).toLoadRect (tbl m 0)
        (Shape.Idx.first (numel1_S1.symm ▸ Nat.one_pos))
      = m ((c : Thread nD τ).loc main_arg2) i := by
  obtain rfl : c = 0 := Subsingleton.elim _ _
  show V m (0 : Dev nD) main_v50 _ = _
  rw [Tables.V_word]
  exact congrArg (m (((0 : Dev nD) : Thread nD τ).loc main_arg2)) (funext fun a => a.elim0)

/-- What the body assumes of its word holds under the precondition. -/
theorem hyps_of_pre (m : (ℓ : Loc nD τ sig) → Buf (Elt Ideal) ℓ) (h : Cert.Pre_KernelIdeal m) (hO : Ok m) : Hyps m hO := by
  refine Hyps.of (fun c t => chk_of_lt _ ?_)
  rw [word_eq m c (fun a => a.elim0)]
  exact Row.lt_of_pre _ _ _ (h c) _

end Cert.KernelIdeal.Side

end
-- ==== Proof.Sinusoid.lean ====
/-
  The mathematics of the sinusoidal position table, over the real numbers: the frequency of a column, the entry of the
  table at a position and a column, the addition theorem that builds the entry at `128 k + r` from the entries at `r` and
  the sine and cosine of `128 k` times the frequency, and the distribution of a real scale over a sum of extended reals.
-/
module

public import Mathlib.Analysis.SpecialFunctions.Trigonometric.Basic
public import Mathlib.Analysis.SpecialFunctions.Log.Basic
public import Mathlib.Data.EReal.Operations

@[expose] public section

noncomputable section

namespace Cert.Sinusoid

/-- The frequency of the `j`-th pair of columns: `exp (2 j · (−ln 10000 / 768))`. -/
def freq (j : ℕ) : ℝ := Real.exp ((2 * j : ℝ) * (-Real.log 10000 / 768))

/-- The position table: at position `p`, the sine of `p` times the column's frequency in an even column, the cosine in an
    odd one. -/
def entry (p q : ℕ) : ℝ :=
  if q % 2 = 0 then Real.sin (p * freq (q / 2)) else Real.cos (p * freq (q / 2))

/-- The position table with the two columns of each pair exchanged. -/
def swapped (p q : ℕ) : ℝ :=
  if q % 2 = 0 then Real.cos (p * freq (q / 2)) else Real.sin (p * freq (q / 2))

/-- The cosine of the `k`-th multiple of 128 times the frequency of column `q`. -/
def cosBig (k q : ℕ) : ℝ := Real.cos (k * 128 * freq (q / 2))

/-- The sine of the same angle, with the sign of the column: plus in an even column, minus in an odd one. -/
def sinBig (k q : ℕ) : ℝ := Real.sin (k * 128 * freq (q / 2)) * (if q % 2 = 0 then 1 else -1)

/-- The addition theorems of sine and cosine, for both parities at once: the entry at position `128 k + r` from the
    entries at `r`. -/
theorem entry_add (k r q : ℕ) :
    entry r q * cosBig k q + swapped r q * sinBig k q = entry (128 * k + r) q := by
  have e : ((128 * k + r : ℕ) : ℝ) * freq (q / 2) = r * freq (q / 2) + k * 128 * freq (q / 2) := by
    push_cast; ring
  unfold entry swapped cosBig sinBig
  rw [e]
  split_ifs
  · rw [Real.sin_add]; ring
  · rw [Real.cos_add]; ring

/-- A real scale that is not negative distributes over a sum of extended reals, and the scaled terms may be regrouped. -/
theorem scale_add (x y : EReal) {s : ℝ} (hs : 0 ≤ s) (e : EReal) :
    x * (s : EReal) + (e + y * (s : EReal)) = (x + y) * (s : EReal) + e := by
  rw [EReal.right_distrib_of_nonneg_of_ne_top (EReal.coe_nonneg.mpr hs) (EReal.coe_ne_top s)]
  rw [add_assoc, add_comm e]

end Cert.Sinusoid

end
-- ==== Proof.Target.lean ====
/-
  What both programs compute: the input plus the chosen row of the two-row table, scaled by the root of the width, plus the
  position table. Over the extended reals, for every input and table.
-/
module

public import proofs.«01_k».proof.Proof.Sinusoid
public import Idealize.ShloMosaic.Lib.Pointwise

@[expose] public section

noncomputable section

namespace Cert.Target

open Idealize.ShloMosaic

/-- The root of the width. -/
abbrev root : EReal := ((Real.sqrt 768 : ℝ) : EReal)

/-- The result at batch `b`, position `p` and column `q`, for the input `x`, the two-row table `te` and its row `w`. -/
def at3 (x : (⟨3, ![4, 4096, 768]⟩ : Shape).Idx → EReal) (te : (⟨2, ![2, 768]⟩ : Shape).Idx → EReal) (w : Fin 2)
    (b : Fin 4) (p : Fin 4096) (q : Fin 768) : EReal :=
  (x (ix3 b p q) + te (ix2 w q)) * root + ((Sinusoid.entry p.val q.val : ℝ) : EReal)

/-- The whole result. -/
def result (x : (⟨3, ![4, 4096, 768]⟩ : Shape).Idx → EReal) (te : (⟨2, ![2, 768]⟩ : Shape).Idx → EReal) (w : Fin 2) :
    (⟨3, ![4, 4096, 768]⟩ : Shape).Idx → EReal :=
  fun i => at3 x te w (i 0) (i 1) (i 2)

/-- The equation that the kernel rests on: scaling the input and the row apart, and building the position's entry from the
    entry of its remainder modulo 128 and the multiple of 128 below it, gives the result. -/
theorem split_eq (x : (⟨3, ![4, 4096, 768]⟩ : Shape).Idx → EReal) (te : (⟨2, ![2, 768]⟩ : Shape).Idx → EReal) (w : Fin 2)
    (b : Fin 4) (p : Fin 4096) (q : Fin 768) (k r : ℕ) (hp : 128 * k + r = p.val) :
    x (ix3 b p q) * root
        + ((((Sinusoid.entry r q.val : ℝ) : EReal) * ((Sinusoid.cosBig k q.val : ℝ) : EReal)
            + ((Sinusoid.swapped r q.val : ℝ) : EReal) * ((Sinusoid.sinBig k q.val : ℝ) : EReal))
          + te (ix2 w q) * root)
      = at3 x te w b p q := by
  rw [← EReal.coe_mul, ← EReal.coe_mul, ← EReal.coe_add, Sinusoid.entry_add, hp, at3,
    Sinusoid.scale_add _ _ (Real.sqrt_nonneg 768)]

end Cert.Target

end
-- ==== Proof.Block.lean ====
/-
  What one block computes: the payload of the body's one store, read at an index, and the staging buffer of the result,
  which that store fills.
-/
module

public import proofs.«01_k».proof.Proof.KernelIdealSide
public import proofs.«01_k».proof.Proof.Target
public import Idealize.ShloMosaic.Lib.VecWindow
public import Idealize.ShloMosaic.Lib.Pointwise
public import Idealize.ShloMosaic.Lib.Pipeline.ValueKit.Tiles

@[expose] public section

noncomputable section

namespace Cert.KernelIdeal.Block

open Cert.KernelIdeal Cert.KernelIdeal.Gen Cert.Target Idealize.ShloMosaic Idealize.ShloMosaic.TcCoe Idealize.SL.Sem

/-- The stored block at an index: the scaled input, plus the angle-addition sum at the position, plus the scaled row. -/
theorem pay_apply (te : Vec Ideal S1x768 .f32) (base swap : Vec Ideal S128x768 .f32) (ck sk : Vec Ideal S1x8x768 .f32)
    (x : Vec Ideal S4x1024x768 .f32) (b : Fin 4) (p : Fin 1024) (q : Fin 768) :
    k0_pay1 te base swap ck sk x (ix3 b p q)
      = x (ix3 b p q) * root
        + ((base (ix2 ⟨p.val % 128, by omega⟩ q) * ck (ix3 0 ⟨p.val / 128, by omega⟩ q)
            + swap (ix2 ⟨p.val % 128, by omega⟩ q) * sk (ix3 0 ⟨p.val / 128, by omega⟩ q))
          + te (ix2 0 q) * root) := by
  pointwise [k0_pay1]
  rfl

set_option maxHeartbeats 1000000 in
/-- The result's staging buffer after the body, at an index, from the blocks that the body finds and the row that the
    word names. -/
theorem out_apply (c : Dev nD) (i : grid0.Coords) (arg2 : Memref sig .tc .vmem S4x1024x768 .f32) (harg2 : arg2.IsWhole)
    (arg3 : Memref sig .tc .vmem S2x768 .f32) (harg3 : arg3.IsWhole) (arg4 : Memref sig .tc .vmem S128x768 .f32) (harg4 : arg4.IsWhole)
    (arg5 : Memref sig .tc .vmem S128x768 .f32) (harg5 : arg5.IsWhole) (arg6 : Memref sig .tc .vmem S1x8x768 .f32) (harg6 : arg6.IsWhole)
    (arg7 : Memref sig .tc .vmem S1x8x768 .f32) (harg7 : arg7.IsWhole) (arg8 : Memref sig .tc .vmem S4x1024x768 .f32) (harg8 : arg8.IsWhole)
    (x0 : Vec Ideal S4x1024x768 .f32) (x1 : Vec Ideal S2x768 .f32) (x2 x3 : Vec Ideal S128x768 .f32) (x4 x5 : Vec Ideal S1x8x768 .f32)
    (xt0 : TbBuf0 (F := Ideal) c tbM0_0)
    (hw : k0_chk1 (tbM0_0.view.readAt (Elt Ideal) (Rect.unit (s := S1) ![0] S1.size inb_S1_S1_0).toLoadRect xt0
      (Shape.Idx.first (numel1_S1.symm ▸ Nat.one_pos))))
    (w : Fin 2)
    (hv : BitVec.toNat (w := 32) (tbM0_0.view.readAt (Elt Ideal) (Rect.unit (s := S1) ![0] S1.size inb_S1_S1_0).toLoadRect xt0
      (Shape.Idx.first (numel1_S1.symm ▸ Nat.one_pos))) = w.val)
    (b : Fin 4) (p : Fin 1024) (q : Fin 768) :
    out0_A_6 c i arg2 harg2 arg3 harg3 arg4 harg4 arg5 harg5 arg6 harg6 arg7 harg7 arg8 harg8 x0 x1 x2 x3 x4 x5 xt0 hw (ix3 b p q)
      = x0 (ix3 b p q) * root
        + ((x2 (ix2 ⟨p.val % 128, by omega⟩ q) * x4 (ix3 0 ⟨p.val / 128, by omega⟩ q)
            + x3 (ix2 ⟨p.val % 128, by omega⟩ q) * x5 (ix3 0 ⟨p.val / 128, by omega⟩ q))
          + x1 (ix2 w q) * root) := by
  unfold out0_A_6 kernelRun0_A
  have h := View.read_writes_cons_emb (v := VO0_6) (f := VO0_6.junk) (Val := Elt Ideal)
    (Rect.unit (s := S4x1024x768) ![0, 0, 0] S4x1024x768.size inb_S4x1024x768_S4x1024x768_0_0_0)
    (k0_pay1 (F := Ideal)
      (arg3.view.readAt (Elt Ideal) (Rect.unit (s := S2x768) (k0_off1 _) S1x768.size (k0_off1_inb _ hw)).toLoadRect (harg3.unread x1))
      (arg4.view.readAt (Elt Ideal) (Rect.unit (s := S128x768) ![0, 0] S128x768.size inb_S128x768_S128x768_0_0).toLoadRect (harg4.unread x2))
      (arg5.view.readAt (Elt Ideal) (Rect.unit (s := S128x768) ![0, 0] S128x768.size inb_S128x768_S128x768_0_0).toLoadRect (harg5.unread x3))
      (arg6.view.readAt (Elt Ideal) (Rect.unit (s := S1x8x768) ![0, 0, 0] S1x8x768.size inb_S1x8x768_S1x8x768_0_0_0).toLoadRect (harg6.unread x4))
      (arg7.view.readAt (Elt Ideal) (Rect.unit (s := S1x8x768) ![0, 0, 0] S1x8x768.size inb_S1x8x768_S1x8x768_0_0_0).toLoadRect (harg7.unread x5))
      (arg2.view.readAt (Elt Ideal) (Rect.unit (s := S4x1024x768) ![0, 0, 0] S4x1024x768.size inb_S4x1024x768_S4x1024x768_0_0_0).toLoadRect (harg2.unread x0)))
    [] (ix3 b p q)
  rw [Rect.emb_unit_full] at h
  refine h.trans ?_
  rw [pay_apply]
  have e : arg3.view.readAt (Elt Ideal) (Rect.unit (s := S2x768) (k0_off1 _) S1x768.size (k0_off1_inb _ hw)).toLoadRect (harg3.unread x1) (ix2 0 q)
      = x1 (ix2 w q) := by
    rw [View.readAt_apply, harg3.read_unread]
    refine congrArg x1 (funext fun a => Fin.ext ?_)
    rw [Rect.idx_unit_val]
    obtain ⟨o0, o1⟩ := Side.off_val _ (hv.trans_lt w.isLt)
    match a with
    | ⟨0, _⟩ => exact (congrArg (· + 0) (o0.trans hv))
    | ⟨1, _⟩ => exact (congrArg (· + q.val) o1).trans (Nat.zero_add _)
  rw [e, View.readAt_full, View.readAt_full, View.readAt_full, View.readAt_full, View.readAt_full, harg2.read_unread,
    harg4.read_unread, harg5.read_unread, harg6.read_unread, harg7.read_unread]

end Cert.KernelIdeal.Block

end
-- ==== Proof.Scalars.lean ====
/-
  The scalars that both programs' position tables are built of, as real numbers: the literals 10000, 768, 128 and −1, an
  index as a real number, and the frequency of a pair of columns.
-/
module

public import proofs.«01_k».proof.Proof.Sinusoid
public import Idealize.ShloMosaic.Lib.IdealHost

@[expose] public section

noncomputable section

namespace Cert.Scalars

open Idealize.ShloMosaic

/-- The literal ten thousand. -/
theorem ofBits_tenThousand : Ideal.ofBits .f32 0x461C4000#32 = ((10000 : ℝ) : EReal) := by
  simp [Ideal.ofBits, Ideal.ieee, -EReal.coe_mul]; norm_num

/-- The literal 768, the width of a row. -/
theorem ofBits_width : Ideal.ofBits .f32 0x44400000#32 = ((768 : ℝ) : EReal) := by
  simp [Ideal.ofBits, Ideal.ieee, -EReal.coe_mul]; norm_num

/-- The literal 128, the number of positions in the straight table. -/
theorem ofBits_rows : Ideal.ofBits .f32 0x43000000#32 = ((128 : ℝ) : EReal) := by
  simp [Ideal.ofBits, Ideal.ieee, -EReal.coe_mul]; norm_num

/-- The literal minus one. -/
theorem ofBits_minusOne : Ideal.ofBits .f32 0xBF800000#32 = ((-1 : ℝ) : EReal) := by
  simp [Ideal.ofBits, Ideal.ieee, -EReal.coe_mul, -EReal.coe_neg]; norm_num

/-- An index as a word, converted, is the index as a real number. -/
theorem index_real (n : ℕ) (hn : n < 2 ^ 31) :
    FloatOps.sitofp (F := Ideal) .f32 (BitVec.ofNat 32 n) = ((n : ℝ) : EReal) := by
  have h : (BitVec.ofNat 32 n).toInt = n := by
    rw [BitVec.toInt_eq_toNat_of_lt (by rw [BitVec.toNat_ofNat]; omega), BitVec.toNat_ofNat]
    omega
  show (((BitVec.ofNat 32 n).toInt : ℝ) : EReal) = _
  rw [h]; push_cast; rfl

/-- The exponent of a frequency at an even column number, exponentiated: the frequency of the pair. -/
theorem freq_real (w : BitVec 32) (j : ℕ) (hj : j < 384) (hw : w = BitVec.ofNat 32 (2 * j)) :
    Ideal.exp (FloatOps.sitofp (F := Ideal) .f32 w
        * Ideal.div (-Ideal.log (Ideal.ofBits .f32 0x461C4000#32)) (Ideal.ofBits .f32 0x44400000#32))
      = ((Sinusoid.freq j : ℝ) : EReal) := by
  rw [hw, index_real _ (by omega), ofBits_tenThousand, ofBits_width, Ideal.log_coe, if_neg (by norm_num),
    ← EReal.coe_neg, Ideal.div_coe (by norm_num), ← EReal.coe_mul, ← EReal.coe_mul, Ideal.exp_coe]
  unfold Sinusoid.freq
  push_cast
  congr 3
  ring

end Cert.Scalars

end
-- ==== Proof.TablesRead.lean ====
/-
  The host's arrays of the ideal kernel read at an index: each entry is the real number that the position table's
  mathematics gives it.
-/
module

public import proofs.«01_k».proof.Proof.Tables
public import proofs.«01_k».proof.Proof.Scalars
public import Idealize.ShloMosaic.Lib.Pointwise

@[expose] public section

noncomputable section

namespace Cert.KernelIdeal.Tables

open Cert.KernelIdeal Cert.KernelIdeal.Gen Idealize.ShloMosaic Idealize.SL.Sem

/-- The frequency of a pair of columns. -/
theorem freq_apply (j : Fin 384) : freq (F := Ideal) (ix1 j) = ((Sinusoid.freq j.val : ℝ) : EReal) := by
  pointwise [freq]
  exact Scalars.freq_real _ _ j.isLt (BitVec.ofNat_mul_ofNat ..)

/-- The angle of one of the first 128 positions. -/
theorem angle_apply (r : Fin 128) (j : Fin 384) :
    angle (F := Ideal) (ix2 r j) = ((r.val * Sinusoid.freq j.val : ℝ) : EReal) := by
  pointwise [angle]
  rw [freq_apply, Scalars.index_real _ (by omega), ← EReal.coe_mul]

/-- The straight table: the position table at one of the first 128 positions. -/
theorem base_apply (r : Fin 128) (q : Fin 768) :
    base (F := Ideal) (ix2 r q) = ((Sinusoid.entry r.val q.val : ℝ) : EReal) := by
  pointwise [base, pairs]
  simp only [angle_apply, Ideal.sin_coe, Ideal.cos_coe, Sinusoid.entry]
  rcases Nat.mod_two_eq_zero_or_one q.val with h | h <;> simp [h]

/-- The exchanged table at one of the first 128 positions. -/
theorem swap_apply (r : Fin 128) (q : Fin 768) :
    swap (F := Ideal) (ix2 r q) = ((Sinusoid.swapped r.val q.val : ℝ) : EReal) := by
  pointwise [swap, base, pairs]
  simp only [angle_apply, Ideal.sin_coe, Ideal.cos_coe, Sinusoid.swapped]
  rcases Nat.mod_two_eq_zero_or_one q.val with h | h <;> simp [h, Fin.rev, angle_apply, -EReal.coe_mul, Ideal.sin_coe, Ideal.cos_coe]

/-- The angle of a multiple of 128, in either column of a pair. -/
theorem bigAngle_apply (k : Fin 32) (q : Fin 768) :
    bigAngle (F := Ideal) (ix2 k q) = ((k.val * 128 * Sinusoid.freq (q.val / 2) : ℝ) : EReal) := by
  pointwise [bigAngle]
  rw [freq_apply, Scalars.index_real _ (by omega), Scalars.ofBits_rows, ← EReal.coe_mul, ← EReal.coe_mul]

/-- The sign of a column. -/
theorem sign_apply (q : Fin 768) :
    sign (F := Ideal) (ix1 q) = (((if q.val % 2 = 0 then 1 else -1) : ℝ) : EReal) := by
  pointwise [sign]
  have e : IntOp.andi (BitVec.ofNat 32 q.val) 1#32 = BitVec.ofNat 32 (q.val % 2) := by
    apply BitVec.eq_of_toNat_eq
    show ((BitVec.ofNat 32 q.val) &&& 1#32).toNat = _
    rw [BitVec.toNat_and]
    simp [Nat.and_one_is_mod]
    omega
  rw [e, Scalars.ofBits_minusOne]
  rcases Nat.mod_two_eq_zero_or_one q.val with h | h <;> simp [h, Scalar.select, IntOp.cmpi]

/-- The cosine of a multiple of 128, in its block of eight. -/
theorem cosBig_apply (i : Fin 4) (k : Fin 8) (q : Fin 768) :
    cosBig (F := Ideal) (ix3 i k q) = ((Sinusoid.cosBig (8 * i.val + k.val) q.val : ℝ) : EReal) := by
  pointwise [cosBig]
  rw [bigAngle_apply, Ideal.cos_coe, Sinusoid.cosBig, show 8 * i.val + k.val = i.val * 8 + k.val by omega]

/-- The signed sine of a multiple of 128, in its block of eight. -/
theorem sinBig_apply (i : Fin 4) (k : Fin 8) (q : Fin 768) :
    sinBig (F := Ideal) (ix3 i k q) = ((Sinusoid.sinBig (8 * i.val + k.val) q.val : ℝ) : EReal) := by
  pointwise [sinBig]
  rw [bigAngle_apply, sign_apply, Ideal.sin_coe, Sinusoid.sinBig, show 8 * i.val + k.val = i.val * 8 + k.val by omega,
    ← EReal.coe_mul]

end Cert.KernelIdeal.Tables

end
-- ==== Proof.Windows.lean ====
/-
  The windows of the ideal kernel: where each block stands in its array, and so what the body finds in each block, read at
  an index of the block.
-/
module

public import proofs.«01_k».proof.Proof.TablesRead
public import Idealize.ShloMosaic.Lib.Pipeline.ValueKit.Tiles

@[expose] public section

noncomputable section

namespace Cert.KernelIdeal.Windows

open Cert.KernelIdeal Cert.KernelIdeal.Gen Idealize.ShloMosaic Idealize.ShloMosaic.TcCoe Idealize.SL.Sem

/-- The block numbers at each of the four points: the input, the two tables of multiples and the result move with the
    point, the other three windows stand still. -/
theorem block_numbers : ∀ t : Fin grid0.N,
    (cc0_transform_0 (grid0.coords t) 0 = 0 ∧ cc0_transform_0 (grid0.coords t) 1 = t.val ∧ cc0_transform_0 (grid0.coords t) 2 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = t.val ∧ cc0_transform_4 (grid0.coords t) 1 = 0 ∧ cc0_transform_4 (grid0.coords t) 2 = 0)
    ∧ (cc0_transform_5 (grid0.coords t) 0 = t.val ∧ cc0_transform_5 (grid0.coords t) 1 = 0 ∧ cc0_transform_5 (grid0.coords t) 2 = 0)
    ∧ (cc0_transform_6 (grid0.coords t) 0 = 0 ∧ cc0_transform_6 (grid0.coords t) 1 = t.val ∧ cc0_transform_6 (grid0.coords t) 2 = 0) := by
  decide +kernel

section place
variable {F : FTy → Type} [FloatOps F] [Named F]
variable (m : (ℓ : Loc nD τ sig) → Buf (Elt F) ℓ) (hO : Ok m) (t : Fin (cfgM m hO).N)

/-- There are four points. -/
theorem point_lt : t.val < 4 := lt_of_lt_of_eq t.isLt N_0

/-- The position that row `p` of point `t`'s block is. -/
abbrev place (p : Fin 1024) : Fin 4096 := ⟨t.val * 1024 + p.val, by have := point_lt m hO t; omega⟩

/-- The input's block at point `t` lies at the positions of that point. -/
theorem emb0 (b : Fin 4) (p : Fin 1024) (q : Fin 768) :
    (((cfgM m hO).win 0).blk t).view.emb (ix3 b p q) = ix3 b (place m hO t p) q := by
  obtain ⟨⟨e0, e1, e2⟩, -⟩ := block_numbers t
  funext a; apply Fin.ext
  match a with
  | ⟨0, _⟩ => show cc0_transform_0 (grid0.coords t) 0 * 4 + 1 * b.val = b.val; omega
  | ⟨1, _⟩ => show cc0_transform_0 (grid0.coords t) 1 * 1024 + 1 * p.val = t.val * 1024 + p.val; omega
  | ⟨2, _⟩ => show cc0_transform_0 (grid0.coords t) 2 * 768 + 1 * q.val = q.val; omega

/-- The window on the two-row table is the whole table, at every point. -/
theorem emb1 (r : Fin 2) (q : Fin 768) :
    (((cfgM m hO).win 1).blk t).view.emb (ix2 r q) = ix2 r q := by
  obtain ⟨-, ⟨e0, e1⟩, -⟩ := block_numbers t
  funext a; apply Fin.ext
  match a with
  | ⟨0, _⟩ => show cc0_transform_1 (grid0.coords t) 0 * 2 + 1 * r.val = r.val; omega
  | ⟨1, _⟩ => show cc0_transform_1 (grid0.coords t) 1 * 768 + 1 * q.val = q.val; omega

/-- The window on the straight table is the whole table, at every point. -/
theorem emb2 (r : Fin 128) (q : Fin 768) :
    (((cfgM m hO).win 2).blk t).view.emb (ix2 r q) = ix2 r q := by
  obtain ⟨-, -, ⟨e0, e1⟩, -⟩ := block_numbers t
  funext a; apply Fin.ext
  match a with
  | ⟨0, _⟩ => show cc0_transform_2 (grid0.coords t) 0 * 128 + 1 * r.val = r.val; omega
  | ⟨1, _⟩ => show cc0_transform_2 (grid0.coords t) 1 * 768 + 1 * q.val = q.val; omega

/-- The window on the exchanged table is the whole table, at every point. -/
theorem emb3 (r : Fin 128) (q : Fin 768) :
    (((cfgM m hO).win 3).blk t).view.emb (ix2 r q) = ix2 r q := by
  obtain ⟨-, -, -, ⟨e0, e1⟩, -⟩ := block_numbers t
  funext a; apply Fin.ext
  match a with
  | ⟨0, _⟩ => show cc0_transform_3 (grid0.coords t) 0 * 128 + 1 * r.val = r.val; omega
  | ⟨1, _⟩ => show cc0_transform_3 (grid0.coords t) 1 * 768 + 1 * q.val = q.val; omega

/-- The window on the cosines is the block of eight multiples that belongs to point `t`. -/
theorem emb4 (k : Fin 8) (q : Fin 768) :
    (((cfgM m hO).win 4).blk t).view.emb (ix3 0 k q) = ix3 ⟨t.val, point_lt m hO t⟩ k q := by
  obtain ⟨-, -, -, -, ⟨e0, e1, e2⟩, -⟩ := block_numbers t
  funext a; apply Fin.ext
  match a with
  | ⟨0, _⟩ => show cc0_transform_4 (grid0.coords t) 0 * 1 + 1 * 0 = t.val; omega
  | ⟨1, _⟩ => show cc0_transform_4 (grid0.coords t) 1 * 8 + 1 * k.val = k.val; omega
  | ⟨2, _⟩ => show cc0_transform_4 (grid0.coords t) 2 * 768 + 1 * q.val = q.val; omega

/-- The window on the signed sines is the block of eight multiples that belongs to point `t`. -/
theorem emb5 (k : Fin 8) (q : Fin 768) :
    (((cfgM m hO).win 5).blk t).view.emb (ix3 0 k q) = ix3 ⟨t.val, point_lt m hO t⟩ k q := by
  obtain ⟨-, -, -, -, -, ⟨e0, e1, e2⟩, -⟩ := block_numbers t
  funext a; apply Fin.ext
  match a with
  | ⟨0, _⟩ => show cc0_transform_5 (grid0.coords t) 0 * 1 + 1 * 0 = t.val; omega
  | ⟨1, _⟩ => show cc0_transform_5 (grid0.coords t) 1 * 8 + 1 * k.val = k.val; omega
  | ⟨2, _⟩ => show cc0_transform_5 (grid0.coords t) 2 * 768 + 1 * q.val = q.val; omega

/-- The result's block at point `t` lies at the positions of that point. -/
theorem emb6 (b : Fin 4) (p : Fin 1024) (q : Fin 768) :
    (((cfgM m hO).win 6).blk t).view.emb (ix3 b p q) = ix3 b (place m hO t p) q := by
  obtain ⟨-, -, -, -, -, -, e0, e1, e2⟩ := block_numbers t
  funext a; apply Fin.ext
  match a with
  | ⟨0, _⟩ => show cc0_transform_6 (grid0.coords t) 0 * 4 + 1 * b.val = b.val; omega
  | ⟨1, _⟩ => show cc0_transform_6 (grid0.coords t) 1 * 1024 + 1 * p.val = t.val * 1024 + p.val; omega
  | ⟨2, _⟩ => show cc0_transform_6 (grid0.coords t) 2 * 768 + 1 * q.val = q.val; omega

/-- The input's block holds the point's 1024 positions. -/
theorem iblk0_apply (c : Dev nD) (b : Fin 4) (p : Fin 1024) (q : Fin 768) :
    iblk m hO c 0 t (ix3 b p q) = m ((c : Thread nD τ).loc main_arg0) (ix3 b (place m hO t p) q) := by
  show V m c main_arg0 ((((cfgM m hO).win 0).blk t).view.emb (ix3 b p q)) = _
  rw [emb0, V_main_arg0]

/-- The two-row table stands in its block whole. -/
theorem iblk1_apply (c : Dev nD) (r : Fin 2) (q : Fin 768) :
    iblk m hO c 1 t (ix2 r q) = m ((c : Thread nD τ).loc main_arg1) (ix2 r q) := by
  show V m c main_arg1 ((((cfgM m hO).win 1).blk t).view.emb (ix2 r q)) = _
  rw [emb1, V_main_arg1]

end place

section tables
variable (m : (ℓ : Loc nD τ sig) → Buf (Elt Ideal) ℓ) (hO : Ok m) (t : Fin (cfgM m hO).N)

/-- The straight table stands in its block whole. -/
theorem iblk2_apply (c : Dev nD) (r : Fin 128) (q : Fin 768) :
    iblk m hO c 2 t (ix2 r q) = ((Sinusoid.entry r.val q.val : ℝ) : EReal) := by
  show V m c main_v46 ((((cfgM m hO).win 2).blk t).view.emb (ix2 r q)) = _
  rw [emb2, Tables.V_base, Tables.base_apply]

/-- The exchanged table stands in its block whole. -/
theorem iblk3_apply (c : Dev nD) (r : Fin 128) (q : Fin 768) :
    iblk m hO c 3 t (ix2 r q) = ((Sinusoid.swapped r.val q.val : ℝ) : EReal) := by
  show V m c main_v49 ((((cfgM m hO).win 3).blk t).view.emb (ix2 r q)) = _
  rw [emb3, Tables.V_swap, Tables.swap_apply]

/-- The point's eight multiples of 128: their cosines. -/
theorem iblk4_apply (c : Dev nD) (k : Fin 8) (q : Fin 768) :
    iblk m hO c 4 t (ix3 0 k q) = ((Sinusoid.cosBig (8 * t.val + k.val) q.val : ℝ) : EReal) := by
  show V m c main_v51 ((((cfgM m hO).win 4).blk t).view.emb (ix3 0 k q)) = _
  rw [emb4, Tables.V_cosBig, Tables.cosBig_apply]

/-- The point's eight multiples of 128: their signed sines. -/
theorem iblk5_apply (c : Dev nD) (k : Fin 8) (q : Fin 768) :
    iblk m hO c 5 t (ix3 0 k q) = ((Sinusoid.sinBig (8 * t.val + k.val) q.val : ℝ) : EReal) := by
  show V m c main_v52 ((((cfgM m hO).win 5).blk t).view.emb (ix3 0 k q)) = _
  rw [emb5, Tables.V_sinBig, Tables.sinBig_apply]

end tables

end Cert.KernelIdeal.Windows

end
-- ==== Proof.Output.lean ====
/-
  What the array holds: each point writes back its block of the result, the four blocks fill the array, and so the ideal
  kernel ends with the whole result, its arguments unchanged.
-/
module

public import proofs.«01_k».proof.Proof.Block
public import proofs.«01_k».proof.Proof.Windows
public import Idealize.ShloMosaic.Lib.Pipeline.Value

@[expose] public section

noncomputable section

namespace Cert.KernelIdeal.Output

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (hO : Ok m) (hH : Hyps m hO) (c : Dev nD)

/-- The result of the launch memory's arguments, for a row `w` of the two-row table. -/
abbrev want (w : Fin 2) : Buf (Elt Ideal) ((c : Thread nD τ).loc main_v53) :=
  Target.result (m ((c : Thread nD τ).loc main_arg0)) (m ((c : Thread nD τ).loc main_arg1)) w

/-- The block that the body leaves at point `t` is the result's, at every index. -/
theorem outs_apply (w : Fin 2) (hw : ∀ i : S_.Idx, BitVec.toNat (w := 32) (m ((c : Thread nD τ).loc main_arg2) i) = w.val)
    (t : Fin (cfgM m hO).N) (b : Fin 4) (p : Fin 1024) (q : Fin 768) :
    outsAt0 m hO hH c t (ix3 b p q) = want m c w (ix3 b (Windows.place m hO t p) q) := by
  unfold outsAt0
  refine (Block.out_apply c _ _ _ _ _ _ _ _ _ _ _ _ _ _ _ _ _ _ _ _ _ _ _ w
    ((congrArg (BitVec.toNat (w := 32)) (Side.word_eq m c (fun a => a.elim0))).trans (hw _)) b p q).trans ?_
  rw [Windows.iblk0_apply, Windows.iblk1_apply, Windows.iblk2_apply, Windows.iblk3_apply, Windows.iblk4_apply,
    Windows.iblk5_apply]
  exact Target.split_eq _ _ w b (Windows.place m hO t p) q _ _ (by show 128 * (8 * t.val + p.val / 128) + p.val % 128 = t.val * 1024 + p.val; omega)

/-- What point `t` writes back is its block of the result. -/
theorem flushed_eq (w : Fin 2) (hw : ∀ i : S_.Idx, BitVec.toNat (w := 32) (m ((c : Thread nD τ).loc main_arg2) i) = w.val)
    (t : Fin (cfgM m hO).N) :
    (dats m hO hH 0 c).flushed 6 t = (((cfgM m hO).win 6).blk t).view.read (Elt Ideal) (want m c w) := by
  show ((cfgM m hO).win 6).cut (grid0.coords t) ((dats m hO hH 0 c).after 6 t) = _
  rw [after0_6]
  refine funext fun (y : S4x1024x768.Idx) => ?_
  rw [eq_ix3 y]
  exact (outs_apply m hO hH c w hw t (y 0) (y 1) (y 2)).trans
    (congrArg (want m c w) (Windows.emb6 m hO t (y 0) (y 1) (y 2)).symm)

/-- The four blocks fill the array. -/
theorem cover (i : S4x4096x768.Idx) :
    ∃ t : Fin (cfgM m hO).N, ((cfgM m hO).win 6).flush t = true ∧ i ∈ (((cfgM m hO).win 6).blk t).view.set := by
  have h1 : (i 1).val < 4096 := (i 1).isLt
  obtain ⟨t, ht⟩ : ∃ t : Fin (cfgM m hO).N, t.val = (i 1).val / 1024 :=
    ⟨(⟨(i 1).val / 1024, by rw [N_0]; omega⟩ : Fin grid0.N), rfl⟩
  have hi : (((cfgM m hO).win 6).blk t).view.emb (ix3 (i 0) ⟨(i 1).val % 1024, by omega⟩ (i 2)) = i := by
    refine (Windows.emb6 m hO t (i 0) ⟨(i 1).val % 1024, by omega⟩ (i 2)).trans
      (Eq.trans (congrArg (fun p => ix3 (i 0) p (i 2)) (Fin.ext ?_)) (eq_ix3 i).symm)
    show t.val * 1024 + (i 1).val % 1024 = (i 1).val
    omega
  exact ⟨t, flush0_6 _ _, hi ▸ View.emb_mem_set _ _⟩

/-- The array after the last point. -/
theorem final (w : Fin 2) (hw : ∀ i : S_.Idx, BitVec.toNat (w := 32) (m ((c : Thread nD τ).loc main_arg2) i) = w.val) :
    (dats m hO hH 0 c).arrAt 6 (cfgM m hO).N = want m c w :=
  (dats m hO hH 0 c).arrAt_eq_of_cover 6 (want m c w) (fun t _ => flushed_eq m hO hH c w hw t) (cover m hO)

/-- The run: the array ends holding the result, the arguments unchanged. -/
theorem run (hO : Ok m) (hH : Hyps m hO) (ρ : Dev nD → PrngReg) (w : Dev nD → Fin 2)
    (hw : ∀ (c : Dev nD) (i : S_.Idx), BitVec.toNat (w := 32) (m ((c : Thread nD τ).loc main_arg2) i) = (w c).val) :
    θ_run defs (onTc (τ := τ) (main (F := Ideal))) ⟨m, fun _ => 0, ρ⟩ fun r => ∀ c : Dev nD,
      r.2.mem ((c : Thread nD τ).loc main_v53) = want m c (w c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 6).trans (final m hO hH c (w c) (hw c)),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).2 main_arg2 (by decide : main_arg2 ∈ Pipeline.restRefs sig spec0)).trans (V_main_arg2 m c)⟩)
    (run_main m ρ hO hH)

end Cert.KernelIdeal.Output

end
-- ==== Proof.Reference.lean ====
/-
  What the reference computes: the row that it takes of the two-row table, its frequencies, its angles, its position table,
  and from them the result.
-/
module

public import proofs.«01_k».proof.Proof.Target
public import proofs.«01_k».proof.Proof.Scalars
public import proofs.«01_k».proof.Proof.Gen.ReferenceIdeal.Read

@[expose] public section

noncomputable section

namespace Cert.ReferenceIdeal.Value

open Cert.ReferenceIdeal Cert.ReferenceIdeal.Gen Idealize.ShloMosaic Idealize.ShloMosaic.TcCoe Idealize.SL.Sem

/-- The row that is taken: where the word is the number `w` of a row, entry `q` of what is taken is entry `(w, q)` of the
    table. -/
theorem row_apply (x1 : FVec Ideal S2x768 .f32) (x2 : IVec S_ 32) (w : Fin 2) (hw : ∀ i, (x2 i).toNat = w.val) (q : Fin 768) :
    Read.val_main_v0 (F := Ideal) x1 x2 (ix1 q) = x1 (ix2 w q) := by
  unfold Read.val_main_v0 Host.gather
  refine congrArg x1 (funext fun a => Fin.ext ?_)
  let d := gather_S2x768_S1_S768_0_0_n_n_0_0_1768
  have hb : ∀ a, a ∉ d.operandBatchingDims := fun a => List.not_mem_nil
  have hw2 := w.isLt
  match a with
  | ⟨0, _⟩ =>
    show d.start (ix1 q) (Read.val_main_call0_v0 (F := Ideal) x2) 0 + d.batchCoord (ix1 q) 0 + d.offCoord (ix1 q) 0 = w.val
    have hk : (0 : Fin 2) ∉ d.sKept := fun h => ((d.mem_sKept 0).1 h).1 (List.mem_singleton.2 rfl)
    have hm : (0 : Fin 2) ∈ d.startIndexMap := List.mem_singleton.2 rfl
    rw [d.batchCoord_eq_zero _ _ (hb 0), d.offCoord_eq_zero _ _ hk]
    unfold GatherDims.start
    rw [dif_pos hm, Read.val_main_call0_v0_apply]
    have e : ∀ i, (x2 i).toInt = w.val := fun i => by
      rw [BitVec.toInt_eq_toNat_of_lt (by rw [hw i]; omega), hw i]
    rw [e]
    show min ((w.val : ℤ)).toNat (2 - 1) + 0 + 0 = w.val
    omega
  | ⟨1, _⟩ =>
    show d.start (ix1 q) (Read.val_main_call0_v0 (F := Ideal) x2) 1 + d.batchCoord (ix1 q) 1 + d.offCoord (ix1 q) 1 = q.val
    have hm : (1 : Fin 2) ∉ d.startIndexMap := by decide
    have hk : (1 : Fin 2) ∈ d.sKept := (d.mem_sKept 1).2 ⟨by decide, hb 1⟩
    rw [d.batchCoord_eq_zero _ _ (hb 1)]
    unfold GatherDims.start GatherDims.offCoord
    rw [dif_neg hm, dif_pos hk, Nat.add_zero, Nat.zero_add]
    exact congrArg (fun k => (ix1 q k).val) (Subsingleton.elim (α := Fin 1) _ 0)

/-- The frequency of the `j`-th pair of columns. -/
theorem freq_apply (j : Fin 384) : Read.val_main_v21 (F := Ideal) (ix1 j) = ((Sinusoid.freq j.val : ℝ) : EReal) := by
  refine Eq.trans ?_ (Scalars.freq_real (IntOp.addi 0#32 (IntOp.muli 2#32 (BitVec.ofNat 32 j.val))) j.val j.isLt ?_)
  · rw [Read.val_main_v21_apply, Read.val_main_v20_apply, Read.val_main_v15_apply, Read.val_main_v14_apply,
      Read.val_main_v13_apply, Read.val_main_v12_apply, Read.val_main_v11_apply, Read.val_main_v19_apply,
      Read.val_main_v18_apply, Read.val_main_v17_apply, Read.val_main_v16_apply]
    rfl
  · show 0#32 + 2#32 * BitVec.ofNat 32 j.val = _
    rw [BitVec.zero_add]
    exact (BitVec.ofNat_mul_ofNat ..)

/-- The angle at a position and a pair of columns. -/
theorem angle_apply (p : Fin 4096) (j : Fin 384) :
    Read.val_main_v25 (F := Ideal) (ix2 p j) = ((p.val * Sinusoid.freq j.val : ℝ) : EReal) := by
  rw [Read.val_main_v25_apply, Read.val_main_v24_apply, Read.val_main_v22_apply, Read.val_main_v23_apply,
    Read.val_main_v9_apply, Read.val_main_v8_apply, Read.val_main_v7_apply]
  refine (congrArg₂ (· * ·) (Scalars.index_real p.val (by omega)) (freq_apply j)).trans ?_
  rw [← EReal.coe_mul]

/-- The position table. -/
theorem table_apply (p : Fin 4096) (q : Fin 768) :
    Read.val_main_v31 (F := Ideal) (ix2 p q) = ((Sinusoid.entry p.val q.val : ℝ) : EReal) := by
  pointwise [Read.val_main_v31, Read.val_main_v30, Read.val_main_v29, Read.val_main_v28, Read.val_main_v27, Read.val_main_v26]
  split
  · rename_i h
    have e : Sinusoid.entry p.val q.val = Real.sin (p.val * Sinusoid.freq (q.val / 2)) :=
      if_pos (Nat.lt_one_iff.mp h)
    exact ((congrArg Ideal.sin (angle_apply p _)).trans (Ideal.sin_coe _)).trans (congrArg _ e.symm)
  · rename_i h
    have e : Sinusoid.entry p.val q.val = Real.cos (p.val * Sinusoid.freq (q.val / 2)) :=
      if_neg fun h0 => h (Nat.lt_one_iff.mpr h0)
    exact ((congrArg Ideal.cos (angle_apply p _)).trans (Ideal.cos_coe _)).trans (congrArg _ e.symm)

/-- The root of the width. -/
theorem root_apply (i : S_.Idx) : Read.val_main_v4 (F := Ideal) i = Target.root := by
  show Ideal.sqrt (Ideal.ofBits .f32 0x44400000#32) = _
  rw [Scalars.ofBits_width, Ideal.sqrt_coe, if_neg (by norm_num)]

/-- The reference's result, where the word is the number `w` of a row. -/
theorem result_eq (x0 : FVec Ideal S4x4096x768 .f32) (x1 : FVec Ideal S2x768 .f32) (x2 : IVec S_ 32) (w : Fin 2)
    (hw : ∀ i, (x2 i).toNat = w.val) :
    Read.val_main_v34 (F := Ideal) x0 x1 x2 = Target.result x0 x1 w := by
  refine funext fun (i : S4x4096x768.Idx) => ?_
  obtain ⟨b, p, q, rfl⟩ : ∃ b p q, i = ix3 b p q := ⟨i 0, i 1, i 2, eq_ix3 i⟩
  pointwise [Read.val_main_v34, Read.val_main_v33, Read.val_main_v32, Read.val_main_v6, Read.val_main_v5, Read.val_main_v3,
    Read.val_main_v2, Read.val_main_v1]
  rw [row_apply x1 x2 w hw, table_apply, root_apply]
  rfl

/-- The run: where each device's word is the number of a row, the array ends holding the result, the arguments unchanged. -/
theorem run_result (m : (ℓ : Loc nD τ sig) → Buf (Elt Ideal) ℓ) (ρ : Dev nD → PrngReg) (w : Dev nD → Fin 2)
    (hw : ∀ (c : Dev nD) (i : S_.Idx), BitVec.toNat (w := 32) (m ((c : Thread nD τ).loc main_arg2) i) = (w c).val) :
    θ_run defs (onTc (τ := τ) (main (F := Ideal))) ⟨m, fun _ => 0, ρ⟩ fun r => ∀ c : Dev nD,
      r.2.mem ((c : Thread nD τ).loc main_v34)
          = Target.result (m ((c : Thread nD τ).loc main_arg0)) (m ((c : Thread nD τ).loc main_arg1)) (w c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((Read.val_main_v34_eq _ _ _).trans (result_eq _ _ _ (w c) (hw c))), (h c).2⟩)
    (run (F := Ideal) m ρ)

end Cert.ReferenceIdeal.Value

end
-- ==== Proof.lean ====
/-
  The certificate. The frames of the kernel as it runs and of the ideal kernel come from their pipelines, once the row
  number is known to name a row of the two-row table; the reference has no semaphore. The two ideal programs end with one
  array: the input plus the chosen row, scaled by the root of the width, plus the position table.
-/
module

public import proofs.«01_k».proof.Defs
public import proofs.«01_k».proof.Proof.KernelSide
public import proofs.«01_k».proof.Proof.Output
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel as it runs: it ends, nothing faults, its arguments stay and every semaphore is back at zero. -/
theorem frame_kernel : Cert.quiescent_Kernel := fun m ρ h =>
  Cert.Kernel.Gen.frame m ρ trivial (Cert.Kernel.Side.hyps_of_pre m h trivial)

/-- The ideal kernel: the same. -/
theorem frame_kernelIdeal : Cert.quiescent_KernelIdeal := fun m ρ h =>
  Cert.KernelIdeal.Gen.frame m ρ trivial (Cert.KernelIdeal.Side.hyps_of_pre m h trivial)

/-- The reference: the same, whatever the row number. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference at a row number of the table: a case of the last. -/
theorem frame_reference_row : Cert.quiescent_ReferenceIdeal_pre_row_of_table := fun m ρ _ => frame_reference m ρ trivial

/-- The constant that the ideal kernel reads by name is the root of 768, and its pattern in the kernel as it runs is the
    nearest single-precision number. -/
theorem preserves : Cert.preserves_Kernel_KernelIdeal :=
  IdealRules.named_const.statement Cert.KernelIdeal.κ "root_dim" .f32 0x41DDB3D7#32 ((Real.sqrt 768 : ℝ) : EReal) rfl

/-- The ideal kernel and the reference end with the same array. -/
theorem algebraic : Cert.algebraic_KernelIdeal_ReferenceIdeal := by
  intro m ρ m' ρ' hpre hagree
  have hrow : ∀ (c : Dev Cert.KernelIdeal.nD) (i : Cert.KernelIdeal.S_.Idx),
      BitVec.toNat (w := 32) (m ((c : Thread Cert.KernelIdeal.nD Cert.KernelIdeal.τ).loc Cert.KernelIdeal.main_arg2) i) < 2 :=
    fun c i => Row.lt_of_pre _ _ _ (hpre c) i
  let w : Dev Cert.KernelIdeal.nD → Fin 2 := fun c => ⟨_, hrow c (fun a => a.elim0)⟩
  have hw : ∀ (c : Dev Cert.KernelIdeal.nD) (i : Cert.KernelIdeal.S_.Idx),
      BitVec.toNat (w := 32) (m ((c : Thread Cert.KernelIdeal.nD Cert.KernelIdeal.τ).loc Cert.KernelIdeal.main_arg2) i) = (w c).val :=
    fun c i => congrArg (fun j => BitVec.toNat (w := 32) (m ((c : Thread Cert.KernelIdeal.nD Cert.KernelIdeal.τ).loc Cert.KernelIdeal.main_arg2) j))
      (funext fun a => a.elim0)
  refine ⟨fun c => Cert.KernelIdeal.Output.want m c (w c),
    Cert.KernelIdeal.Output.run m trivial (Cert.KernelIdeal.Side.hyps_of_pre m hpre trivial) ρ w hw, ?_⟩
  refine (θ_run Cert.ReferenceIdeal.defs _ _).mono (fun _ h c => ⟨(h c).1.trans ?_, (h c).2⟩)
    (Cert.ReferenceIdeal.Value.run_result m' ρ' w fun c i => by rw [(hagree c).2.2]; exact hw c i)
  rw [(hagree c).1, (hagree c).2.1]

/-- Everything that is claimed. -/
theorem claim : Cert.Claim :=
  ⟨Cert.Kernel.Gen.facts, Cert.KernelIdeal.Gen.facts, Cert.ReferenceIdeal.Gen.facts, Cert.Pre_row_of_table.Gen.facts,
    frame_kernel, frame_kernelIdeal, frame_reference, frame_reference_row, preserves, algebraic⟩

end Cert.Proof

end
